-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_nonzero_weights_finite [hPre_rows_nonzero_weights_finite : Cert.Pre_rows_nonzero_weights_finite.Facts] (m : (ℓ : Loc Cert.KernelIdeal.nD Cert.KernelIdeal.τ Cert.KernelIdeal.sig) → Buf (Elt Ideal) ℓ) : Prop :=
  ∀ c : Dev Cert.KernelIdeal.nD,
    (Cert.Pre_rows_nonzero_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_rows_nonzero_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_nonzero_weights_finite [hPre_rows_nonzero_weights_finite : Cert.Pre_rows_nonzero_weights_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_nonzero_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_rows_nonzero_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_rows_nonzero_weights_finite [hKernelIdeal : Cert.KernelIdeal.Facts] [hPre_rows_nonzero_weights_finite : Cert.Pre_rows_nonzero_weights_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_nonzero_weights_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_rows_nonzero_weights_finite [hReferenceIdeal : Cert.ReferenceIdeal.Facts] [hPre_rows_nonzero_weights_finite : Cert.Pre_rows_nonzero_weights_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_nonzero_weights_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_rows_nonzero_weights_finite [hKernelIdeal : Cert.KernelIdeal.Facts] [hReferenceIdeal : Cert.ReferenceIdeal.Facts] [hPre_rows_nonzero_weights_finite : Cert.Pre_rows_nonzero_weights_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_nonzero_weights_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_rows_nonzero_weights_finite : Cert.Pre_rows_nonzero_weights_finite.Facts),
    quiescent_Kernel (hKernel := hKernel)
    ∧ quiescent_KernelIdeal (hKernelIdeal := hKernelIdeal)
    ∧ quiescent_KernelIdeal_pre_rows_nonzero_weights_finite (hKernelIdeal := hKernelIdeal) (hPre_rows_nonzero_weights_finite := hPre_rows_nonzero_weights_finite)
    ∧ quiescent_ReferenceIdeal (hReferenceIdeal := hReferenceIdeal)
    ∧ quiescent_ReferenceIdeal_pre_rows_nonzero_weights_finite (hReferenceIdeal := hReferenceIdeal) (hPre_rows_nonzero_weights_finite := hPre_rows_nonzero_weights_finite)
    ∧ preserves_Kernel_KernelIdeal
    ∧ algebraic_KernelIdeal_ReferenceIdeal_pre_rows_nonzero_weights_finite (hKernelIdeal := hKernelIdeal) (hReferenceIdeal := hReferenceIdeal) (hPre_rows_nonzero_weights_finite := hPre_rows_nonzero_weights_finite)
-- ==== Pre_rows_nonzero_weights_finite.lean ====
abbrev S2x16x2048x64 : Shape := ⟨4, ![2, 16, 2048, 64]⟩
abbrev S1x16x128x64 : Shape := ⟨4, ![1, 16, 128, 64]⟩
abbrev S16x128x64 : Shape := ⟨3, ![16, 128, 64]⟩
abbrev S_ : Shape := ⟨0, ![]⟩
abbrev S2x16x2048 : Shape := ⟨3, ![2, 16, 2048]⟩

class Facts : Prop where
  reducesTo_S2x16x2048x64_S2x16x2048_d3 : S2x16x2048x64.ReducesTo [3] S2x16x2048
  h_S_ : 0 < S_.numel
  bcast_S_S2x16x2048 : S_.BroadcastsInDim S2x16x2048 (![] : Fin 0 → Fin S2x16x2048.rank)
  bcast_S_S16x128x64 : S_.BroadcastsInDim S16x128x64 (![] : Fin 0 → Fin S16x128x64.rank)

variable [Facts]

def fn {F : FTy → Type} [FloatOps F] (main_arg0 : FVec F S2x16x2048x64 .f32) (main_arg1 : FVec F S2x16x2048x64 .f32) (main_arg2 : FVec F S1x16x128x64 .f32) (main_arg3 : FVec F S16x128x64 .f32) : IVec S2x16x2048 1 × IVec S16x128x64 1 :=
  let main_v0 : FVec F S2x16x2048x64 .f32 := mulf main_arg0 main_arg0
  let main_cst : FVec F S_ .f32 := constant S_ .f32 0x00000000#32
  let main_v1 : FVec F S2x16x2048 .f32 := (fun x v => Host.reduceAdd x v reducesTo_S2x16x2048x64_S2x16x2048_d3 h_S_) main_v0 main_cst
  let main_cst_0 : FVec F S_ .f32 := constant S_ .f32 0x00000000#32
  let main_v2 : FVec F S2x16x2048 .f32 := broadcastInDim S2x16x2048 ![] bcast_S_S2x16x2048 main_cst_0
  let main_v3 : IVec S2x16x2048 1 := cmpf .ogt main_v1 main_v2
  let main_v4 : FVec F S16x128x64 .f32 := Host.absf main_arg3
  let main_cst_1 : FVec F S_ .f32 := constant S_ .f32 0x7F800000#32
  let main_v5 : FVec F S16x128x64 .f32 := broadcastInDim S16x128x64 ![] bcast_S_S16x128x64 main_cst_1
  let main_v6 : IVec S16x128x64 1 := cmpf .olt main_v4 main_v5
  (main_v3, main_v6)
-- ==== Kernel.lean ====
abbrev S2x16x2048x64 : Shape := ⟨4, ![2, 16, 2048, 64]⟩
abbrev S1x16x128x64 : Shape := ⟨4, ![1, 16, 128, 64]⟩
abbrev S16x128x64 : Shape := ⟨3, ![16, 128, 64]⟩
abbrev S1x8x2048x64 : Shape := ⟨4, ![1, 8, 2048, 64]⟩
abbrev S1x1x2048x64 : Shape := ⟨4, ![1, 1, 2048, 64]⟩
abbrev S2048x64 : Shape := ⟨2, ![2048, 64]⟩
abbrev S1x128x64 : Shape := ⟨3, ![1, 128, 64]⟩
abbrev S128x64 : Shape := ⟨2, ![128, 64]⟩
abbrev S64x8 : Shape := ⟨2, ![64, 8]⟩
abbrev S2048x8 : Shape := ⟨2, ![2048, 8]⟩
abbrev S2048x1 : Shape := ⟨2, ![2048, 1]⟩
abbrev S2048x128 : Shape := ⟨2, ![2048, 128]⟩
abbrev S128 : Shape := ⟨1, ![128]⟩
abbrev S1x128 : Shape := ⟨2, ![1, 128]⟩
abbrev S1x64 : Shape := ⟨2, ![1, 64]⟩
abbrev S64x64 : Shape := ⟨2, ![64, 64]⟩
abbrev S64x1 : Shape := ⟨2, ![64, 1]⟩
abbrev S64x65 : Shape := ⟨2, ![64, 65]⟩
abbrev S2048x65 : Shape := ⟨2, ![2048, 65]⟩

abbrev nBuf : Space → Nat
  | .hbm => 11
  | .vmem => 8
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S1x16x128x64, .f32⟩
  | .hbm, ⟨3, _⟩ => ⟨S16x128x64, .f32⟩
  | .hbm, ⟨4, _⟩ => ⟨S2x16x2048x64, .bf16⟩
  | .hbm, ⟨5, _⟩ => ⟨S2x16x2048x64, .bf16⟩
  | .hbm, ⟨6, _⟩ => ⟨S16x128x64, .f32⟩
  | .hbm, ⟨7, _⟩ => ⟨S16x128x64, .bf16⟩
  | .hbm, ⟨8, _⟩ => ⟨S16x128x64, .bf16⟩
  | .hbm, ⟨9, _⟩ => ⟨S2x16x2048x64, .bf16⟩
  | .hbm, ⟨10, _⟩ => ⟨S2x16x2048x64, .f32⟩
  | .local _ .vmem, ⟨0, _⟩ => ⟨S1x8x2048x64, .bf16⟩
  | .local _ .vmem, ⟨1, _⟩ => ⟨S1x8x2048x64, .bf16⟩
  | .local _ .vmem, ⟨2, _⟩ => ⟨S1x8x2048x64, .bf16⟩
  | .local _ .vmem, ⟨3, _⟩ => ⟨S1x8x2048x64, .bf16⟩
  | .local _ .vmem, ⟨4, _⟩ => ⟨S16x128x64, .bf16⟩
  | .local _ .vmem, ⟨5, _⟩ => ⟨S16x128x64, .bf16⟩
  | .local _ .vmem, ⟨6, _⟩ => ⟨S1x8x2048x64, .bf16⟩
  | .local _ .vmem, ⟨7, _⟩ => ⟨S1x8x2048x64, .bf16⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def k0_off1 (i : grid0.Coords) (c0_i32_3 : BitVec 32) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let v11 : BitVec 32 := Scalar.addi v10 c0_i32_3
  let v17 : Index := Scalar.indexCast v11
  let c0_12 : Index := 0#32
  let c0_13 : Index := 0#32
  ![v17.toNat, 0, 0]
def cc0_transform_0 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_1 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

abbrev stage0_0 : Fin 2 → Memref sig .tc .vmem S1x8x2048x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x128x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x8x2048x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S2x16x2048x64 : Shape := ⟨4, ![2, 16, 2048, 64]⟩
abbrev S1x16x128x64 : Shape := ⟨4, ![1, 16, 128, 64]⟩
abbrev S16x128x64 : Shape := ⟨3, ![16, 128, 64]⟩
abbrev S_ : Shape := ⟨0, ![]⟩
abbrev S2x16x2048 : Shape := ⟨3, ![2, 16, 2048]⟩
abbrev S2x16x2048x1 : Shape := ⟨4, ![2, 16, 2048, 1]⟩
abbrev S16x128x2x2048 : Shape := ⟨4, ![16, 128, 2, 2048]⟩
abbrev S2x16x2048x128 : Shape := ⟨4, ![2, 16, 2048, 128]⟩
abbrev S2x16x128 : Shape := ⟨3, ![2, 16, 128]⟩
abbrev S2x16x1x128 : Shape := ⟨4, ![2, 16, 1, 128]⟩
abbrev S16x64x2x2048 : Shape := ⟨4, ![16, 64, 2, 2048]⟩
abbrev S2x16x64 : Shape := ⟨3, ![2, 16, 64]⟩
abbrev S2x16x64x64 : Shape := ⟨4, ![2, 16, 64, 64]⟩

abbrev nBuf : Space → Nat
  | .hbm => 58
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S1x16x128x64, .f32⟩
  | .hbm, ⟨3, _⟩ => ⟨S16x128x64, .f32⟩
  | .hbm, ⟨4, _⟩ => ⟨S2x16x2048x64, .f32⟩
  | .hbm, ⟨5, _⟩ => ⟨S_, .f32⟩
  | .hbm, ⟨6, _⟩ => ⟨S2x16x2048, .f32⟩
  | .hbm, ⟨7, _⟩ => ⟨S2x16x2048x1, .f32⟩
  | .hbm, ⟨8, _⟩ => ⟨S2x16x2048x1, .f32⟩
  | .hbm, ⟨9, _⟩ => ⟨S2x16x2048x64, .f32⟩
  | .hbm, ⟨10, _⟩ => ⟨S2x16x2048x64, .f32⟩
  | .hbm, ⟨11, _⟩ => ⟨S_, .f32⟩
  | .hbm, ⟨12, _⟩ => ⟨S16x128x64, .f32⟩
  | .hbm, ⟨13, _⟩ => ⟨S16x128x2x2048, .f32⟩
  | .hbm, ⟨14, _⟩ => ⟨S2x16x2048x128, .f32⟩
  | .hbm, ⟨15, _⟩ => ⟨S_, .f32⟩
  | .hbm, ⟨16, _⟩ => ⟨S2x16x2048x128, .f32⟩
  | .hbm, ⟨17, _⟩ => ⟨S2x16x2048x128, .f32⟩
  | .hbm, ⟨18, _⟩ => ⟨S_, .f32⟩
  | .hbm, ⟨19, _⟩ => ⟨S2x16x2048x128, .f32⟩
  | .hbm, ⟨20, _⟩ => ⟨S2x16x2048x128, .f32⟩
  | .hbm, ⟨21, _⟩ => ⟨S_, .f32⟩
  | .hbm, ⟨22, _⟩ => ⟨S_, .f32⟩
  | .hbm, ⟨23, _⟩ => ⟨S2x16x2048x128, .f32⟩
  | .hbm, ⟨24, _⟩ => ⟨S2x16x2048x128, .f32⟩
  | .hbm, ⟨25, _⟩ => ⟨S_, .f32⟩
  | .hbm, ⟨26, _⟩ => ⟨S2x16x2048x128, .f32⟩
  | .hbm, ⟨27, _⟩ => ⟨S2x16x2048x128, .f32⟩
  | .hbm, ⟨28, _⟩ => ⟨S2x16x2048x128, .f32⟩
  | .hbm, ⟨29, _⟩ => ⟨S_, .f32⟩
  | .hbm, ⟨30, _⟩ => ⟨S2x16x128, .f32⟩
  | .hbm, ⟨31, _⟩ => ⟨S2x16x1x128, .f32⟩
  | .hbm, ⟨32, _⟩ => ⟨S_, .f32⟩
  | .hbm, ⟨33, _⟩ => ⟨S2x16x1x128, .f32⟩
  | .hbm, ⟨34, _⟩ => ⟨S2x16x1x128, .f32⟩
  | .hbm, ⟨35, _⟩ => ⟨S2x16x2048x128, .f32⟩
  | .hbm, ⟨36, _⟩ => ⟨S2x16x2048x128, .f32⟩
  | .hbm, ⟨37, _⟩ => ⟨S16x64x2x2048, .f32⟩
  | .hbm, ⟨38, _⟩ => ⟨S2x16x2048x64, .f32⟩
  | .hbm, ⟨39, _⟩ => ⟨S2x16x2048x64, .f32⟩
  | .hbm, ⟨40, _⟩ => ⟨S_, .f32⟩
  | .hbm, ⟨41, _⟩ => ⟨S2x16x2048x64, .f32⟩
  | .hbm, ⟨42, _⟩ => ⟨S2x16x2048x64, .f32⟩
  | .hbm, ⟨43, _⟩ => ⟨S_, .f32⟩
  | .hbm, ⟨44, _⟩ => ⟨S2x16x64, .f32⟩
  | .hbm, ⟨45, _⟩ => ⟨S2x16x2048, .f32⟩
  | .hbm, ⟨46, _⟩ => ⟨S_, .f32⟩
  | .hbm, ⟨47, _⟩ => ⟨S2x16x2048, .f32⟩
  | .hbm, ⟨48, _⟩ => ⟨S2x16x2048, .f32⟩
  | .hbm, ⟨49, _⟩ => ⟨S_, .f32⟩
  | .hbm, ⟨50, _⟩ => ⟨S2x16x2048, .f32⟩
  | .hbm, ⟨51, _⟩ => ⟨S2x16x2048, .f32⟩
  | .hbm, ⟨52, _⟩ => ⟨S2x16x64x64, .f32⟩
  | .hbm, ⟨53, _⟩ => ⟨S2x16x2048x64, .f32⟩
  | .hbm, ⟨54, _⟩ => ⟨S2x16x2048x64, .f32⟩
  | .hbm, ⟨55, _⟩ => ⟨S2x16x2048x1, .f32⟩
  | .hbm, ⟨56, _⟩ => ⟨S2x16x2048x64, .f32⟩
  | .hbm, ⟨57, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_call1_v0 : Ref sig .tc := ⟨.hbm, 22, rfl⟩
abbrev main_call1_v1 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_v14 : Ref sig .tc := ⟨.hbm, 30, rfl⟩
abbrev main_v15 : Ref sig .tc := ⟨.hbm, 31, rfl⟩
abbrev main_cst_5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩
abbrev main_v24 : Ref sig .tc := ⟨.hbm, 42, rfl⟩
abbrev main_cst_7 : Ref sig .tc := ⟨.hbm, 43, rfl⟩
abbrev main_v25 : Ref sig .tc := ⟨.hbm, 44, rfl⟩
abbrev main_v26 : Ref sig .tc := ⟨.hbm, 45, rfl⟩
abbrev main_cst_8 : Ref sig .tc := ⟨.hbm, 46, rfl⟩
abbrev main_v27 : Ref sig .tc := ⟨.hbm, 47, rfl⟩
abbrev main_v28 : Ref sig .tc := ⟨.hbm, 48, rfl⟩
abbrev main_cst_9 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]
-- ==== Proof.Value.Math.lean ====
/- The two readings of the attention, over extended reals and without arrays: the kernel's order of operations and the
   reference's, and the theorem that they agree when no query row is zero and the weights are finite. -/
module

public import Idealize.ShloMosaic.PureOps.Ideal.Laws
public import Idealize.ShloMosaic.Lib.IdealHost

@[expose] public section

noncomputable section

namespace Hash

open Idealize.ShloMosaic

variable {ν γ μ δ ε : Type} [Fintype ν] [Fintype γ] [Fintype μ] [Fintype δ]

/-- The number of rows, as the programs spell it. -/
abbrev rows : EReal := Ideal.ofBits .f32 0x45000000#32
/-- The bias of the numerator, as the programs spell it. -/
abbrev biasTop : EReal := Ideal.ofBits .f32 0x42820000#32
/-- The bias of the denominator, as the programs spell it. -/
abbrev biasBot : EReal := Ideal.ofBits .f32 0x48020000#32

/-- The kernel's similarity: inner products scaled by the reciprocal root of the query's square sum, clipped at one. -/
def simsK (x : ν → γ → EReal) (a : μ → γ → EReal) (n : ν) (b : μ) : EReal :=
  Ideal.exp (min ((∑ c, x n c * a b c) * Ideal.rsqrt (∑ c, x n c * x n c)) 1 - 1)

/-- The reference's similarity: inner products with the normalised query, as a squared distance clipped at zero. -/
def simsR (x : ν → γ → EReal) (a : μ → γ → EReal) (n : ν) (b : μ) : EReal :=
  Ideal.exp (Ideal.ofBits .f32 0xBF000000#32 *
    max 0 (Ideal.ofBits .f32 0x40000000#32 - Ideal.ofBits .f32 0x40000000#32 *
      ∑ c, a b c * Ideal.div (x n c) (Ideal.sqrt (∑ c, x n c * x n c))))

/-- The kernel's codes: the means are taken off after the product with the weights. -/
def codesK (k : ν → μ → EReal) (w : μ → δ → EReal) (n : ν) (d : δ) : EReal :=
  Ideal.tanh (∑ b, k n b * w b d - ∑ b, Ideal.div (∑ n', k n' b) rows * w b d)

/-- The reference's codes: the means are taken off before the product with the weights. -/
def codesR (k : ν → μ → EReal) (w : μ → δ → EReal) (n : ν) (d : δ) : EReal :=
  Ideal.tanh (∑ b, w b d * (k n b - Ideal.div (∑ n', k n' b) rows))

/-- The read-out of codes `q` and values `v`: linear attention with biases, divided by its normaliser. -/
def out (q : ν → δ → EReal) (v : ν → ε → EReal) (n : ν) (e : ε) : EReal :=
  (∑ d, q n d * ∑ n', q n' d * v n' e + biasTop * v n e) *
    Ideal.div 1 (∑ d, q n d * ∑ n', q n' d + biasBot)

/-! ## Constants -/

/-- The constant two. -/
theorem ofBits_two : Ideal.ofBits .f32 0x40000000#32 = ((2 : ℝ) : EReal) := by
  simp [Ideal.ofBits, Ideal.ieee]
  rw [← EReal.coe_mul]; norm_num

/-- The constant minus one half. -/
theorem ofBits_neg_half : Ideal.ofBits .f32 0xBF000000#32 = ((-(1 / 2) : ℝ) : EReal) := by
  simp [Ideal.ofBits, Ideal.ieee]
  rw [← EReal.coe_mul]; norm_num

/-- The number of rows is 2048. -/
theorem rows_eq : rows = ((2048 : ℝ) : EReal) := by
  simp [rows, Ideal.ofBits, Ideal.ieee]
  rw [← EReal.coe_mul]; norm_num

/-! ## Sums of extended reals -/

/-- A sum of reals is a real. -/
theorem coe_sum {ι : Type} (s : Finset ι) (f : ι → ℝ) : ((∑ i ∈ s, f i : ℝ) : EReal) = ∑ i ∈ s, (f i : EReal) := by
  induction s using Finset.cons_induction with
  | empty => simp
  | cons i s hi ih => rw [Finset.sum_cons, Finset.sum_cons, EReal.coe_add, ih]

/-- A nonnegative real factor comes out of a sum of extended reals, infinite terms or not. -/
theorem sum_mul_coe {ι : Type} (s : Finset ι) (f : ι → EReal) (t : ℝ) (ht : 0 ≤ t) :
    (∑ i ∈ s, f i) * (t : EReal) = ∑ i ∈ s, f i * t := by
  induction s using Finset.cons_induction with
  | empty => simp
  | cons i s hi ih =>
    rw [Finset.sum_cons, Finset.sum_cons,
      EReal.right_distrib_of_nonneg_of_ne_top (EReal.coe_nonneg.2 ht) (EReal.coe_ne_top t), ih]

/-! ## The similarity kernels agree -/

/-- Scaling by the reciprocal root of a positive square sum is dividing each entry by its root. -/
theorem dot_scaled (x a : γ → EReal) (s : EReal) (hs : 0 < s) :
    (∑ c, x c * a c) * Ideal.rsqrt s = ∑ c, a c * Ideal.div (x c) (Ideal.sqrt s) := by
  induction s using EReal.rec with
  | bot => exact absurd hs (by simp)
  | top =>
    have h : ∀ c, a c * Ideal.div (x c) (Ideal.sqrt ⊤) = 0 := fun c => by
      rw [show Ideal.sqrt ⊤ = ⊤ from rfl, Ideal.div, if_neg EReal.top_ne_zero, EReal.inv_top, mul_zero, mul_zero]
    simp only [h, Finset.sum_const_zero]
    rw [show Ideal.rsqrt ⊤ = 0 from rfl, mul_zero]
  | coe r =>
    have hr : 0 < r := by exact_mod_cast hs
    have hq : 0 < Real.sqrt r := Real.sqrt_pos.2 hr
    have h1 : Ideal.rsqrt (r : EReal) = (((Real.sqrt r)⁻¹ : ℝ) : EReal) := by
      rw [show Ideal.rsqrt (r : EReal) = if r < 0 then ⊥ else if r = 0 then ⊤ else (((Real.sqrt r)⁻¹ : ℝ) : EReal) from rfl,
        if_neg hr.le.not_gt, if_neg hr.ne']
    have h2 : Ideal.sqrt (r : EReal) = ((Real.sqrt r : ℝ) : EReal) := by
      rw [show Ideal.sqrt (r : EReal) = if r < 0 then ⊥ else ((Real.sqrt r : ℝ) : EReal) from rfl,
        if_neg hr.le.not_gt]
    rw [h1, h2, sum_mul_coe _ _ _ (inv_nonneg.2 hq.le)]
    refine Finset.sum_congr rfl fun c _ => ?_
    have h3 : ((Real.sqrt r : ℝ) : EReal) ≠ 0 := by exact_mod_cast hq.ne'
    rw [Ideal.div, if_neg h3, ← EReal.coe_inv, mul_comm (x c) (a c), mul_assoc]

/-- Clipping the similarity at one and subtracting one is minus half the clipped squared distance. -/
theorem clip_eq (s : EReal) :
    min s 1 - 1 = ((-(1 / 2) : ℝ) : EReal) * max 0 (((2 : ℝ) : EReal) - ((2 : ℝ) : EReal) * s) := by
  induction s using EReal.rec with
  | bot =>
    rw [EReal.coe_mul_bot_of_pos (by norm_num), EReal.coe_sub_bot, max_eq_right le_top,
      EReal.coe_mul_top_of_neg (by norm_num), min_eq_left bot_le, EReal.bot_sub]
  | top =>
    rw [EReal.coe_mul_top_of_pos (by norm_num), EReal.sub_top, max_eq_left bot_le, mul_zero, min_eq_right le_top,
      ← EReal.coe_one, ← EReal.coe_sub, sub_self, EReal.coe_zero]
  | coe r =>
    rw [← EReal.coe_mul, ← EReal.coe_sub, ← EReal.coe_zero, ← EReal.coe_one, ← EReal.coe_strictMono.monotone.map_max,
      ← EReal.coe_strictMono.monotone.map_min, ← EReal.coe_mul, ← EReal.coe_sub]
    congr 1
    rcases le_total r 1 with h | h
    · rw [min_eq_left h, max_eq_right (by linarith)]; ring
    · rw [min_eq_right h, max_eq_left (by linarith)]; ring

/-- The two similarity kernels are equal where the query row's square sum is positive. -/
theorem sims_eq (x : ν → γ → EReal) (a : μ → γ → EReal) (n : ν) (b : μ) (h : 0 < ∑ c, x n c * x n c) :
    simsK x a n b = simsR x a n b := by
  unfold simsK simsR
  rw [dot_scaled (x n) (a b) _ h, clip_eq, ofBits_two, ofBits_neg_half]

/-- The similarity kernel's values are real numbers. -/
theorem sims_real (x : ν → γ → EReal) (a : μ → γ → EReal) (n : ν) (b : μ) : ∃ r : ℝ, simsK x a n b = r := by
  unfold simsK
  generalize (∑ c, x n c * a b c) * Ideal.rsqrt (∑ c, x n c * x n c) = s
  induction s using EReal.rec with
  | bot => exact ⟨0, by rw [min_eq_left bot_le, EReal.bot_sub]; rfl⟩
  | top => exact ⟨Real.exp (1 - 1), by rw [min_eq_right le_top, ← EReal.coe_one, ← EReal.coe_sub]; rfl⟩
  | coe r => exact ⟨Real.exp (min r 1 - 1), by
      rw [← EReal.coe_one, ← EReal.coe_strictMono.monotone.map_min, ← EReal.coe_sub]
      rfl⟩

/-! ## The codes agree -/

/-- A finite extended real is a real. -/
theorem real_of_abs_lt {w : EReal} (h : max w (-w) < ⊤) : ∃ r : ℝ, w = r := by
  induction w using EReal.rec with
  | bot => exact absurd h (by simp)
  | top => exact absurd h (by simp)
  | coe r => exact ⟨r, rfl⟩

/-- Over real similarities and weights, taking the means off before or after the product is the same. -/
theorem codes_eq (k : ν → μ → EReal) (w : μ → δ → EReal) (hk : ∀ n b, ∃ r : ℝ, k n b = r)
    (hw : ∀ b d, ∃ r : ℝ, w b d = r) (n : ν) (d : δ) : codesK k w n d = codesR k w n d := by
  choose k' hk using hk
  choose w' hw using hw
  have hdiv : ∀ r : ℝ, Ideal.div (r : EReal) rows = ((r * (2048 : ℝ)⁻¹ : ℝ) : EReal) := fun r => by
    have h0 : ((2048 : ℝ) : EReal) ≠ 0 := by exact_mod_cast (by norm_num : (2048 : ℝ) ≠ 0)
    rw [rows_eq, Ideal.div, if_neg h0, ← EReal.coe_inv, ← EReal.coe_mul]
  unfold codesK codesR
  simp only [hk, hw, ← coe_sum, hdiv, ← EReal.coe_mul, ← EReal.coe_sub]
  congr 2
  rw [← Finset.sum_sub_distrib]
  exact Finset.sum_congr rfl fun b _ => by ring

/-- The whole head: kernel and reference agree when no query row is zero and the weights are finite. -/
theorem head_eq (x : ν → γ → EReal) (v : ν → ε → EReal) (a : μ → γ → EReal) (w : μ → δ → EReal)
    (hx : ∀ n, 0 < ∑ c, x n c * x n c) (hw : ∀ b d, max (w b d) (-(w b d)) < ⊤) (n : ν) (e : ε) :
    out (codesK (simsK x a) w) v n e = out (codesR (simsR x a) w) v n e := by
  have h1 : simsK x a = simsR x a := funext fun n => funext fun b => sims_eq x a n b (hx n)
  have h2 : codesK (simsK x a) w = codesR (simsK x a) w := funext fun n => funext fun d =>
    codes_eq _ _ (sims_real x a) (fun b d => real_of_abs_lt (hw b d)) n d
  rw [h2, h1]

end Hash

end
-- ==== Proof.Value.Head.lean ====
/- One attention head of the kernel as a value: the similarity kernel of a head's queries and anchors, its hash
   codes, its read-out, and the fact that each of the eight heads a grid point works through stores this value. -/
module

public import proofs.«01_k».proof.Proof.Gen.KernelIdeal.Frame
public import Idealize.ShloMosaic.Lib.Pipeline.Value
public import Idealize.ShloMosaic.Lib.ValueIdx

@[expose] public section

noncomputable section

namespace Cert.KernelIdeal.Head

open Idealize.ShloMosaic Cert.KernelIdeal Cert.KernelIdeal.Gen

variable {F : FTy → Type} [FloatOps F]

/-- The similarity kernel of a head: the inner products of queries and anchors, scaled by each query's reciprocal
    norm, clipped at one, and `exp (· - 1)` of that. -/
def sims (x : FVec F S2048x64 .bf16) (a : FVec F S128x64 .bf16) : FVec F S2048x128 .f32 :=
  exp (subf
    (minimumf
      (mulf (matmul dot_S2048x64_S128x64_S2048x128_1_1_0_0_n_n none x a (constant S2048x128 .f32 0x00000000#32))
        (broadcastTo S2048x128
          (rsqrt (extractStridedSlice S2048x1 ![0, 0]
            (matmul dot_S2048x64_S64x8_S2048x8_1_0_0_1_n_n none (mulf x x)
              (broadcast S64x8 (Scalar.ofBits (F := F) .bf16 0x3F80#16)) (constant S2048x8 .f32 0x00000000#32))
            slices_S2048x8_o0_0_S2048x1))
          broadcasts_S2048x1_S2048x128))
      (broadcast S2048x128 (Scalar.ofBits (F := F) .f32 0x3F800000#32)))
    (broadcast S2048x128 (Scalar.ofBits (F := F) .f32 0x3F800000#32)))

/-- The hash codes of a head: `tanh` of the similarity kernel times the weights, less its column means times the
    weights. -/
def codes (k : FVec F S2048x128 .f32) (w : FVec F S128x64 .bf16) : FVec F S2048x64 .bf16 :=
  truncf .bf16 (tanh (subf
    (matmul dot_S2048x128_S128x64_S2048x64_1_0_0_1_n_n none (truncf .bf16 k bitsLt_bf16_f32) w
      (constant S2048x64 .f32 0x00000000#32))
    (broadcastTo S2048x64
      (matmul dot_S1x128_S128x64_S1x64_1_0_0_1_n_n none
        (truncf .bf16 (divf
          (shapeCast S1x128 (multiReduction .add [0] S128 k 0x00000000#32 reduces_S2048x128_S128 (.inl rfl) rfl)
            shapeCasts_S128_S1x128)
          (broadcast S1x128 (Scalar.ofBits (F := F) .f32 0x45000000#32))) bitsLt_bf16_f32)
        w (constant S1x64 .f32 0x00000000#32))
      broadcasts_S1x64_S2048x64))) bitsLt_bf16_f32

/-- The read-out's matrix product: the codes times [codes' v | codes' 1]. -/
def readout (q v : FVec F S2048x64 .bf16) : FVec F S2048x65 .f32 :=
  matmul dot_S2048x64_S64x65_S2048x65_1_0_0_1_n_n none q
    (truncf .bf16
      (concatenate S64x65 1
        [⟨S64x64, matmul dot_S2048x64_S2048x64_S64x64_0_0_1_1_n_n none q v (constant S64x64 .f32 0x00000000#32)⟩,
         ⟨S64x1, extractStridedSlice S64x1 ![0, 0]
            (matmul dot_S2048x64_S2048x8_S64x8_0_0_1_1_n_n none q
              (broadcast S2048x8 (Scalar.ofBits (F := F) .bf16 0x3F80#16)) (constant S64x8 .f32 0x00000000#32))
            slices_S64x8_o0_0_S64x1⟩]
        concatenates_S64x64_S64x1_S64x65_d1) bitsLt_bf16_f32)
    (constant S2048x65 .f32 0x00000000#32)

/-- The normalised output of a head from the read-out's product and the values. -/
def normed (r : FVec F S2048x65 .f32) (v : FVec F S2048x64 .bf16) : FVec F S2048x64 .bf16 :=
  truncf .bf16
    (mulf
      (addf (extractStridedSlice S2048x64 ![0, 0] r slices_S2048x65_o0_0_S2048x64)
        (mulf (broadcast S2048x64 (Scalar.ofBits (F := F) .f32 0x42820000#32)) (extf .f32 v bitsLt_bf16_f32)))
      (broadcastTo S2048x64
        (divf (broadcast S2048x1 (Scalar.ofBits (F := F) .f32 0x3F800000#32))
          (addf (extractStridedSlice S2048x1 ![0, 64] r slices_S2048x65_o0_64_S2048x1)
            (broadcast S2048x1 (Scalar.ofBits (F := F) .f32 0x48020000#32))))
        broadcasts_S2048x1_S2048x64)) bitsLt_bf16_f32

/-- A head's output block from its loaded queries, values, anchors and weights. -/
def head (X V : Vec F S1x1x2048x64 .bf16) (A W : Vec F S1x128x64 .bf16) : FVec F S1x1x2048x64 .bf16 :=
  shapeCast S1x1x2048x64
    (normed
      (readout
        (codes
          (sims (shapeCast S2048x64 X shapeCasts_S1x1x2048x64_S2048x64)
            (shapeCast S128x64 A shapeCasts_S1x128x64_S128x64))
          (shapeCast S128x64 W shapeCasts_S1x128x64_S128x64))
        (shapeCast S2048x64 V shapeCasts_S1x1x2048x64_S2048x64))
      (shapeCast S2048x64 V shapeCasts_S1x1x2048x64_S2048x64))
    shapeCasts_S2048x64_S1x1x2048x64

/-- The slices of a point's blocks that head `k` works on lie inside the blocks. -/
theorem row_inb : ∀ (k : Fin 8) (a : Fin 4),
    (![0, k.val, 0, 0] : Fin 4 → Nat) a + S1x1x2048x64.size a ≤ S1x8x2048x64.size a := by decide

/-- Head `k`'s output at grid coordinates `i` from a point's four blocks: `head` of the blocks' slices. -/
def headAt (i : grid0.Coords) (x0 x1 : Vec F S1x8x2048x64 .bf16) (x2 x3 : Vec F S16x128x64 .bf16) (k : Fin 8) :
    FVec F S1x1x2048x64 .bf16 :=
  head (View.ld x0 (Rect.unit (s := S1x8x2048x64) ![0, k.val, 0, 0] S1x1x2048x64.size (row_inb k)))
    (View.ld x1 (Rect.unit (s := S1x8x2048x64) ![0, k.val, 0, 0] S1x1x2048x64.size (row_inb k)))
    (View.ld x2 (Rect.unit (s := S16x128x64) (k0_off1 i (BitVec.ofNat 32 k.val)) S1x128x64.size (k0_off1_inb i k)))
    (View.ld x3 (Rect.unit (s := S16x128x64) (k0_off1 i (BitVec.ofNat 32 k.val)) S1x128x64.size (k0_off1_inb i k)))

/-- The output block of a grid point: at row `k` of its head axis, head `k`'s output. -/
def block (i : grid0.Coords) (x0 x1 : Vec F S1x8x2048x64 .bf16) (x2 x3 : Vec F S16x128x64 .bf16) :
    Vec F S1x8x2048x64 .bf16 :=
  fun y => headAt i x0 x1 x2 x3 ⟨(y 1).val, (y 1).isLt⟩
    (ValueIdx.ix4 (0 : Fin 1) (0 : Fin 1) ⟨(y 2).val, (y 2).isLt⟩ ⟨(y 3).val, (y 3).isLt⟩)

/-- Head `k`'s store writes the block's row `k`. -/
theorem headAt_eq_block (i : grid0.Coords) (x0 x1 : Vec F S1x8x2048x64 .bf16) (x2 x3 : Vec F S16x128x64 .bf16)
    (k : Fin 8) (x : S1x1x2048x64.Idx) :
    headAt i x0 x1 x2 x3 k x
      = block i x0 x1 x2 x3
          ((Rect.unit (s := S1x8x2048x64) ![0, k.val, 0, 0] S1x1x2048x64.size (row_inb k)).emb x) := by
  have h0 : (x 0).val < 1 := (x 0).isLt
  have h1 : (x 1).val < 1 := (x 1).isLt
  have hk : (⟨((Rect.unit (s := S1x8x2048x64) ![0, k.val, 0, 0] S1x1x2048x64.size (row_inb k)).emb x 1).val,
      ((Rect.unit (s := S1x8x2048x64) ![0, k.val, 0, 0] S1x1x2048x64.size (row_inb k)).emb x 1).isLt⟩ : Fin 8) = k :=
    Fin.ext (show k.val + 1 * (x 1).val = k.val by omega)
  unfold block
  rw [hk]
  refine congrArg _ (funext fun a => Fin.ext ?_)
  match a with
  | ⟨0, _⟩ => show (x 0).val = 0; omega
  | ⟨1, _⟩ => show (x 1).val = 0; omega
  | ⟨2, _⟩ => show (x 2).val = 0 + 1 * (x 2).val; omega
  | ⟨3, _⟩ => show (x 3).val = 0 + 1 * (x 3).val; omega

variable (m : (ℓ : Loc nD τ sig) → Buf (Elt F) ℓ)

set_option maxHeartbeats 2000000 in
set_option maxRecDepth 65536 in
/-- After the body at point `t` the output window's staging buffer holds the point's block: each of the eight heads'
    stores is that head's output. -/
theorem outsAt0_eq (c : Dev nD) (t : Fin cfg0.N) :
    outsAt0 m c t = block (grid0.coords t) (iblk m c 0 t) (iblk m c 1 t) (iblk m c 2 t) (iblk m c 3 t) := by
  unfold outsAt0 out0_A_4
  rw [View.read_writes_eq_canon _ _ _ (cover0_A_4 c (grid0.coords t) (ms0_0 t) (hs0_0 t) (ms0_1 t) (hs0_1 t) (ms0_2 t)
    (hs0_2 t) (ms0_3 t) (hs0_3 t) (ms0_4 t) (hs0_4 t) (iblk m c 0 t) (iblk m c 1 t) (iblk m c 2 t) (iblk m c 3 t))]
  have hc := cover0_A_4 c (grid0.coords t) (ms0_0 t) (hs0_0 t) (ms0_1 t) (hs0_1 t) (ms0_2 t)
    (hs0_2 t) (ms0_3 t) (hs0_3 t) (ms0_4 t) (hs0_4 t) (iblk m c 0 t) (iblk m c 1 t) (iblk m c 2 t) (iblk m c 3 t)
  generalize iblk m c 0 t = b0 at *
  generalize iblk m c 1 t = b1 at *
  generalize iblk m c 2 t = b2 at *
  generalize iblk m c 3 t = b3 at *
  funext y
  refine View.canon_apply_of_pieces (block (grid0.coords t) b0 b1 b2 b3) _ ?_ y (hc y)
  unfold kernelRun0_A
  dsimp only
  sl_unfold_words
  simp only [View.readAt_eq_ld, (hs0_0 t).read_unread, (hs0_1 t).read_unread, (hs0_2 t).read_unread,
    (hs0_3 t).read_unread, List.forall_mem_cons]
  refine ⟨fun x => headAt_eq_block (grid0.coords t) b0 b1 b2 b3 7 x, ?_⟩
  refine ⟨fun x => headAt_eq_block (grid0.coords t) b0 b1 b2 b3 6 x, ?_⟩
  refine ⟨fun x => headAt_eq_block (grid0.coords t) b0 b1 b2 b3 5 x, ?_⟩
  refine ⟨fun x => headAt_eq_block (grid0.coords t) b0 b1 b2 b3 4 x, ?_⟩
  refine ⟨fun x => headAt_eq_block (grid0.coords t) b0 b1 b2 b3 3 x, ?_⟩
  refine ⟨fun x => headAt_eq_block (grid0.coords t) b0 b1 b2 b3 2 x, ?_⟩
  refine ⟨fun x => headAt_eq_block (grid0.coords t) b0 b1 b2 b3 1 x, ?_⟩
  refine ⟨fun x => headAt_eq_block (grid0.coords t) b0 b1 b2 b3 0 x, ?_⟩
  exact fun p hp => absurd hp List.not_mem_nil

end Cert.KernelIdeal.Head

end
-- ==== Proof.Value.HeadValue.lean ====
/- A head's output read at an index, as the formulas of `Math`. -/
module

public import proofs.«01_k».proof.Proof.Value.Head
public import proofs.«01_k».proof.Proof.Value.Math
public import Idealize.ShloMosaic.Lib.Pointwise

@[expose] public section

noncomputable section

namespace Cert.KernelIdeal.Head

open Idealize.ShloMosaic Cert.KernelIdeal Cert.KernelIdeal.Gen

/-- A matrix as a function of its two coordinates. -/
abbrev mat {N C : ℕ} (x : (⟨2, ![N, C]⟩ : Shape).Idx → EReal) : Fin N → Fin C → EReal := fun n c => x (ix2 n c)

/-- The similarity kernel at an index. -/
theorem sims_apply (x : FVec Ideal S2048x64 .bf16) (a : FVec Ideal S128x64 .bf16) (n : Fin 2048) (b : Fin 128) :
    sims x a (ix2 n b) = Hash.simsK (mat x) (mat a) n b := by
  pointwise [sims]
  rfl

/-- The codes at an index. -/
theorem codes_apply (k : FVec Ideal S2048x128 .f32) (w : FVec Ideal S128x64 .bf16) (n : Fin 2048) (d : Fin 64) :
    codes k w (ix2 n d) = Hash.codesK (mat k) (mat w) n d := by
  pointwise [codes]
  rfl

/-- The read-out's product at a column of the values: the codes times the values' context. -/
theorem readout_apply (q v : FVec Ideal S2048x64 .bf16) (n : Fin 2048) (e : Fin 64) :
    readout q v (ix2 n (⟨e.val, by omega⟩ : Fin 65)) = ∑ d, mat q n d * ∑ n', mat q n' d * mat v n' e := by
  pointwise [readout]

/-- The read-out's product at its last column: the codes times their sums. -/
theorem readout_last (q v : FVec Ideal S2048x64 .bf16) (n : Fin 2048) :
    readout q v (ix2 n (64 : Fin 65)) = ∑ d, mat q n d * ∑ n', mat q n' d := by
  pointwise [readout]

/-- The normalised output at an index. -/
theorem normed_apply (r : FVec Ideal S2048x65 .f32) (v : FVec Ideal S2048x64 .bf16) (n : Fin 2048) (e : Fin 64) :
    normed r v (ix2 n e) = (r (ix2 n (⟨e.val, by omega⟩ : Fin 65)) + Hash.biasTop * mat v n e) *
      Ideal.div 1 (r (ix2 n (64 : Fin 65)) + Hash.biasBot) := by
  pointwise [normed]

/-- A head's output at an index, from the four loaded slices. -/
theorem head_apply (X V : Vec Ideal S1x1x2048x64 .bf16) (A W : Vec Ideal S1x128x64 .bf16) (n : Fin 2048) (e : Fin 64) :
    head X V A W (ix4 (0 : Fin 1) (0 : Fin 1) n e)
      = Hash.out (Hash.codesK (Hash.simsK (fun n c => X (ix4 (0 : Fin 1) (0 : Fin 1) n c)) (fun b c => A (ix3 (0 : Fin 1) b c)))
          (fun b d => W (ix3 (0 : Fin 1) b d))) (fun n e => V (ix4 (0 : Fin 1) (0 : Fin 1) n e)) n e := by
  pointwise [head]
  rw [normed_apply, readout_apply, readout_last]
  have hx : mat (shapeCast S2048x64 X shapeCasts_S1x1x2048x64_S2048x64) = fun n c => X (ix4 (0 : Fin 1) (0 : Fin 1) n c) := by
    funext n c; pointwise [mat]; try rfl
  have hv : mat (shapeCast S2048x64 V shapeCasts_S1x1x2048x64_S2048x64) = fun n c => V (ix4 (0 : Fin 1) (0 : Fin 1) n c) := by
    funext n c; pointwise [mat]; try rfl
  have ha : mat (shapeCast S128x64 A shapeCasts_S1x128x64_S128x64) = fun b c => A (ix3 (0 : Fin 1) b c) := by
    funext n c; pointwise [mat]; try rfl
  have hw : mat (shapeCast S128x64 W shapeCasts_S1x128x64_S128x64) = fun b c => W (ix3 (0 : Fin 1) b c) := by
    funext n c; pointwise [mat]; try rfl
  have hs : ∀ x a, mat (sims x a) = Hash.simsK (mat x) (mat a) := fun x a => funext fun n => funext fun b => sims_apply x a n b
  have hq : ∀ k w, mat (codes k w) = Hash.codesK (mat k) (mat w) := fun k w => funext fun n => funext fun b => codes_apply k w n b
  rw [hq, hs, hx, hv, ha, hw]
  rfl

end Cert.KernelIdeal.Head

end
-- ==== Proof.Value.KernelValue.lean ====
/- The kernel's result array after the run, as one function of its four argument arrays. -/
module

public import proofs.«01_k».proof.Proof.Value.HeadValue
public import Idealize.ShloMosaic.Lib.Pipeline.ValueKit.Geometry
public import Idealize.ShloMosaic.Lib.Claim
public import Idealize.ShloMosaic.Lib.ValueLayout

@[expose] public section

set_option maxRecDepth 16384

noncomputable section

namespace Cert.KernelIdeal.Result

open Idealize.ShloMosaic Idealize.ShloMosaic.TcCoe Cert.KernelIdeal Cert.KernelIdeal.Gen

/-- The result of the kernel at batch `b`, head `h`, row `n`, column `e`: the head's output formula of that head's
    queries, values, anchors and weights. -/
def entry (x v : S2x16x2048x64.Idx → EReal) (a w : S16x128x64.Idx → EReal) (b : Fin 2) (h : Fin 16) (n : Fin 2048)
    (e : Fin 64) : EReal :=
  Hash.out (Hash.codesK (Hash.simsK (fun n c => x (ix4 b h n c)) (fun b c => a (ix3 h b c))) (fun b d => w (ix3 h b d)))
    (fun n e => v (ix4 b h n e)) n e

/-- The whole result array. -/
def result (x v : S2x16x2048x64.Idx → EReal) (a w : S16x128x64.Idx → EReal) : S2x16x2048x64.Idx → EReal :=
  fun i => entry x v a w (i 0) (i 1) (i 2) (i 3)

/-- Block indices of the queries' window: batch `t / 2`, half `t % 2` of the heads. -/
theorem index_0 : ∀ t : Fin grid0.N, win0_0.index t = ![t.val / 2, t.val % 2, 0, 0] := by decide +kernel
/-- Block indices of the values' window, the same. -/
theorem index_1 : ∀ t : Fin grid0.N, win0_1.index t = ![t.val / 2, t.val % 2, 0, 0] := by decide +kernel
/-- The anchors' window is the whole array at every point. -/
theorem index_2 : ∀ t : Fin grid0.N, win0_2.index t = ![0, 0, 0] := by decide +kernel
/-- The weights' window is the whole array at every point. -/
theorem index_3 : ∀ t : Fin grid0.N, win0_3.index t = ![0, 0, 0] := by decide +kernel
/-- Block indices of the output's window, the same as the queries'. -/
theorem index_4 : ∀ t : Fin grid0.N, win0_4.index t = ![t.val / 2, t.val % 2, 0, 0] := by decide +kernel
/-- Head `k` of a point takes the anchors' and the weights' slice number `8 (t % 2) + k`. -/
theorem off1_eq : ∀ (t : Fin grid0.N) (k : Fin 8),
    k0_off1 (grid0.coords t) (BitVec.ofNat 32 k.val) = ![t.val % 2 * 8 + k.val, 0, 0] := by decide +kernel

/-- The slice number lies inside the sixteen heads. -/
theorem slice_lt (t : Fin grid0.N) (k : Fin 8) : t.val % 2 * 8 + k.val < 16 := by omega

/-- A load of one head's slice of the queries or values, at an index. -/
theorem ld_row (x : Vec Ideal S1x8x2048x64 .bf16) (k : Fin 8) (n : Fin 2048) (c : Fin 64) :
    View.ld x (Rect.unit (s := S1x8x2048x64) ![0, k.val, 0, 0] S1x1x2048x64.size (Head.row_inb k))
      (ix4 (0 : Fin 1) (0 : Fin 1) n c) = x (ix4 (0 : Fin 1) k n c) := by
  refine congrArg x (funext fun a => Fin.ext ?_)
  match a with
  | ⟨0, _⟩ => rfl
  | ⟨1, _⟩ => rfl
  | ⟨2, _⟩ => show 0 + 1 * n.val = n.val; omega
  | ⟨3, _⟩ => show 0 + 1 * c.val = c.val; omega

/-- A load of one head's slice of the anchors or weights, at an index. -/
theorem ld_slice (x : Vec Ideal S16x128x64 .bf16) (t : Fin grid0.N) (k : Fin 8) (b : Fin 128) (c : Fin 64) :
    View.ld x (Rect.unit (s := S16x128x64) (k0_off1 (grid0.coords t) (BitVec.ofNat 32 k.val)) S1x128x64.size
      (k0_off1_inb (grid0.coords t) k)) (ix3 (0 : Fin 1) b c)
      = x (ix3 (⟨t.val % 2 * 8 + k.val, slice_lt t k⟩ : Fin 16) b c) := by
  refine congrArg x (funext fun a => Fin.ext ?_)
  have h (a : Fin 3) := congrFun (off1_eq t k) a
  match a with
  | ⟨0, _⟩ => exact h 0
  | ⟨1, _⟩ => exact (congrArg (· + 1 * b.val) (h 1)).trans (show 0 + 1 * b.val = b.val by omega)
  | ⟨2, _⟩ => exact (congrArg (· + 1 * c.val) (h 2)).trans (show 0 + 1 * c.val = c.val by omega)

/-- The output formula takes equal entries to equal results. -/
theorem out_congr {x x' v v' : Fin 2048 → Fin 64 → EReal} {a a' w w' : Fin 128 → Fin 64 → EReal}
    (hx : ∀ n c, x n c = x' n c) (hv : ∀ n c, v n c = v' n c) (ha : ∀ b c, a b c = a' b c) (hw : ∀ b c, w b c = w' b c)
    (n : Fin 2048) (e : Fin 64) :
    Hash.out (Hash.codesK (Hash.simsK x a) w) v n e = Hash.out (Hash.codesK (Hash.simsK x' a') w') v' n e := by
  rw [funext₂ hx, funext₂ hv, funext₂ ha, funext₂ hw]

/-- A point's output block at head `k` of the point, row `n`, column `e`. -/
theorem block_apply (t : Fin grid0.N) (x0 x1 : Vec Ideal S1x8x2048x64 .bf16) (x2 x3 : Vec Ideal S16x128x64 .bf16)
    (k : Fin 8) (n : Fin 2048) (e : Fin 64) :
    Head.block (grid0.coords t) x0 x1 x2 x3 (ix4 (0 : Fin 1) k n e)
      = Hash.out (Hash.codesK (Hash.simsK (fun n c => x0 (ix4 (0 : Fin 1) k n c))
            (fun b c => x2 (ix3 (⟨t.val % 2 * 8 + k.val, slice_lt t k⟩ : Fin 16) b c)))
          (fun b d => x3 (ix3 (⟨t.val % 2 * 8 + k.val, slice_lt t k⟩ : Fin 16) b d)))
        (fun n e => x1 (ix4 (0 : Fin 1) k n e)) n e := by
  show Head.headAt (grid0.coords t) x0 x1 x2 x3 k (ix4 (0 : Fin 1) (0 : Fin 1) n e) = _
  exact (Head.head_apply _ _ _ _ n e).trans
    (out_congr (ld_row x0 k) (ld_row x1 k) (ld_slice x2 t k) (ld_slice x3 t k) n e)

variable (m : (ℓ : Loc nD τ sig) → Buf (Elt Ideal) ℓ)

/-- The pipeline's output array after the last point. -/
theorem final (c : Dev nD) : (dats m 0 c).arrAt 4 cfg0.N
    = result (V m c main_call0_v0) (V m c main_call0_v1) (V m c main_call0_v3) (V m c main_call0_v4) := by
  refine (dats m 0 c).arrAt_eq_of_covers 4 _ (by decide +kernel) fun t hf y => ?_
  blk_simp
  rw [after0_4, Head.outsAt0_eq]
  obtain ⟨k, n, e, rfl⟩ : ∃ (k : Fin 8) (n : Fin 2048) (e : Fin 64), y = ix4 (0 : Fin 1) k n e :=
    ⟨y 1, y 2, y 3, by
      funext a
      match a with
      | ⟨0, _⟩ => exact Fin.ext (show (y 0).val = 0 by have : (y 0).val < 1 := (y 0).isLt; omega)
      | ⟨1, _⟩ => rfl
      | ⟨2, _⟩ => rfl
      | ⟨3, _⟩ => rfl⟩
  have ht : t.val / 2 < 2 := by have : t.val < 4 := t.isLt; omega
  have hi : (win0_4.blk t).view.emb (ix4 (0 : Fin 1) k n e)
      = ix4 (⟨t.val / 2, ht⟩ : Fin 2) (⟨t.val % 2 * 8 + k.val, slice_lt t k⟩ : Fin 16) n e := by
    blk_ext [index_4]
  have h0 : ∀ n c', iblk m c 0 t (ix4 (0 : Fin 1) k n c') = V m c main_call0_v0
      (ix4 (⟨t.val / 2, ht⟩ : Fin 2) (⟨t.val % 2 * 8 + k.val, slice_lt t k⟩ : Fin 16) n c') := fun n c' => by
    blk_ext [iblk, index_0]
  have h1 : ∀ n c', iblk m c 1 t (ix4 (0 : Fin 1) k n c') = V m c main_call0_v1
      (ix4 (⟨t.val / 2, ht⟩ : Fin 2) (⟨t.val % 2 * 8 + k.val, slice_lt t k⟩ : Fin 16) n c') := fun n c' => by
    blk_ext [iblk, index_1]
  have h2 : ∀ h b c', iblk m c 2 t (ix3 h b c') = V m c main_call0_v3 (ix3 (n0 := 16) (n1 := 128) (n2 := 64) h b c') := fun h b c' => by
    blk_ext [iblk, index_2]
  have h3 : ∀ h b c', iblk m c 3 t (ix3 h b c') = V m c main_call0_v4 (ix3 (n0 := 16) (n1 := 128) (n2 := 64) h b c') := fun h b c' => by
    blk_ext [iblk, index_3]
  rw [hi]
  refine (block_apply t _ _ _ _ k n e).trans ?_
  exact out_congr h0 h1 (h2 _) (h3 _) n e

/-- The anchors with their unit axis away. -/
abbrev anchors (a : S1x16x128x64.Idx → EReal) : S16x128x64.Idx → EReal := fun j => a (ix4 (0 : Fin 1) (j 0) (j 1) (j 2))

/-- The region finds the queries as launched (the format change is the identity). -/
theorem entry_0 (c : Dev nD) : V m c main_call0_v0 = m ((c : Thread nD τ).loc main_arg0) := by
  entry_read
  rfl
/-- The region finds the values as launched. -/
theorem entry_1 (c : Dev nD) : V m c main_call0_v1 = m ((c : Thread nD τ).loc main_arg1) := by
  entry_read
  rfl
/-- The region finds the anchors as launched, their unit axis away. -/
theorem entry_2 (c : Dev nD) : V m c main_call0_v3 = anchors (m ((c : Thread nD τ).loc main_arg2)) := by
  show StableHlo.after hostOps0 (fun b => m (c, b)) _ = _
  after_results_simp
  funext j
  obtain ⟨h, b, c', rfl⟩ : ∃ (h : Fin 16) (b : Fin 128) (c' : Fin 64), j = ix3 h b c' :=
    ⟨j 0, j 1, j 2, ValueIdx.eq_ix3 j⟩
  exact ValueIdx.shapeCast_1abc_abc_apply (m (c, Proc.tc.devRef main_arg2)) shapeCasts_S1x16x128x64_S16x128x64 h b c'
/-- The region finds the weights as launched. -/
theorem entry_3 (c : Dev nD) : V m c main_call0_v4 = m ((c : Thread nD τ).loc main_arg3) := by
  entry_read
  rfl

/-- The buffer returned after the trailing format change: the pipeline's output array. -/
theorem tail_v0 (c : Dev nD) : Pipeline.afterTail₀ cfgs (dats m) 0 (V0 m) [hostOps1] c main_v0
    = result (m ((c : Thread nD τ).loc main_arg0)) (m ((c : Thread nD τ).loc main_arg1))
        (anchors (m ((c : Thread nD τ).loc main_arg2))) (m ((c : Thread nD τ).loc main_arg3)) := by
  rw [← entry_0 m, ← entry_1 m, ← entry_2 m, ← entry_3 m, ← final m]
  unfold Pipeline.afterTail₀
  simp only [List.flatten_cons, List.flatten_nil, List.append_nil]
  after_results_simp
  exact Pipeline.withArrays_arr spec0 (by decide) c (V0 m c) (fun w => (dats m 0 c).arrAt w cfg0.N) 4

/-- The run: the result buffer ends holding `result` of the arguments, the arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v0)
        = result (m ((c : Thread nD τ).loc main_arg0)) (m ((c : Thread nD τ).loc main_arg1))
            (anchors (m ((c : Thread nD τ).loc main_arg2))) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).2 main_v0 (Pipeline.mem_restRefs_of main_v0 (by decide) (by decide))).trans
      (tail_v0 m c), h.2 c⟩)
    (θ_run_and (run_main m ρ) (unchanged m ρ))

end Cert.KernelIdeal.Result

end
-- ==== Proof.Value.RefValue.lean ====
/- The reference's result at an index, as the reference's formulas of `Math`. -/
module

public import proofs.«01_k».proof.Proof.Gen.ReferenceIdeal.Read
public import proofs.«01_k».proof.Proof.Value.Math
public import Idealize.ShloMosaic.Lib.Pointwise

@[expose] public section

noncomputable section

namespace Cert.ReferenceIdeal.Result

open Idealize.ShloMosaic Cert.ReferenceIdeal Cert.ReferenceIdeal.Gen Cert.ReferenceIdeal.Read

variable (x v : S2x16x2048x64.Idx → EReal) (a : S1x16x128x64.Idx → EReal) (w : S16x128x64.Idx → EReal)

/-- The normalised queries at an index. -/
theorem unit_apply (b : Fin 2) (h : Fin 16) (n : Fin 2048) (c : Fin 64) :
    val_main_v2 (F := Ideal) x (ix4 b h n c)
      = Ideal.div (x (ix4 b h n c)) (Ideal.sqrt (∑ c, x (ix4 b h n c) * x (ix4 b h n c))) := by
  pointwise [val_main_v2, val_main_v1, val_main_v0, val_main_call0_v2, val_main_call0_v1, val_main_call0_v0, val_main_call0_cst]

/-- The reference's anchors at an index. -/
theorem anchors_apply (h : Fin 16) (b : Fin 128) (c : Fin 64) :
    val_main_v3 (F := Ideal) a (ix3 h b c) = a (ix4 (0 : Fin 1) h b c) := by
  pointwise [val_main_v3, val_main_cst]
  exact Fin.sum_univ_one _

/-- The similarity kernel at an index. -/
theorem sims_apply (b : Fin 2) (h : Fin 16) (n : Fin 2048) (k : Fin 128) :
    val_main_v13 (F := Ideal) x a (ix4 b h n k)
      = Hash.simsR (fun n c => x (ix4 b h n c)) (fun k c => a (ix4 (0 : Fin 1) h k c)) n k := by
  pointwise [val_main_v13, val_main_v12, val_main_v11, val_main_v10, val_main_v9, val_main_v8, val_main_v7, val_main_v6,
    val_main_v5, val_main_v4, val_main_call1_v1, val_main_call1_v0, id_eq, val_main_cst_0, val_main_cst_1, val_main_cst_2, val_main_cst_3, unit_apply, anchors_apply]
  rfl

/-- The codes at an index. -/
theorem codes_apply (b : Fin 2) (h : Fin 16) (n : Fin 2048) (d : Fin 64) :
    val_main_v22 (F := Ideal) x a w (ix4 b h n d)
      = Hash.codesR (fun n k => val_main_v13 (F := Ideal) x a (ix4 b h n k)) (fun k d => w (ix3 h k d)) n d := by
  pointwise [val_main_v22, val_main_v21, val_main_v20, val_main_v19, val_main_v18, val_main_v17, val_main_v16, val_main_v15,
    val_main_v14, val_main_cst_4, val_main_cst_5]
  rfl

/-- The result at an index. -/
theorem result_apply (b : Fin 2) (h : Fin 16) (n : Fin 2048) (e : Fin 64) :
    val_main_v36 (F := Ideal) x v a w (ix4 b h n e)
      = Hash.out (Hash.codesR (Hash.simsR (fun n c => x (ix4 b h n c)) (fun k c => a (ix4 (0 : Fin 1) h k c)))
          (fun k d => w (ix3 h k d))) (fun n e => v (ix4 b h n e)) n e := by
  pointwise [val_main_v36, val_main_v35, val_main_v34, val_main_v33, val_main_v32, val_main_v31, val_main_v30, val_main_v29,
    val_main_v28, val_main_v27, val_main_v26, val_main_v25, val_main_v24, val_main_v23, val_main_cst_6, val_main_cst_7,
    val_main_cst_8, val_main_cst_9, codes_apply, sims_apply]
  rw [mul_comm (v _)]
  rfl

end Cert.ReferenceIdeal.Result

end
-- ==== Proof.Value.Pre.lean ====
/- What the precondition says of the arguments, entry by entry. -/
module

public import proofs.«01_k».proof.Proof.Gen.Pre_rows_nonzero_weights_finite
public import Idealize.ShloMosaic.Lib.Pointwise
public import Idealize.ShloMosaic.PureOps.Ideal.Laws
public import Idealize.ShloMosaic.Lib.IdealHost

@[expose] public section

noncomputable section

namespace Cert.Pre_rows_nonzero_weights_finite.Meaning

open Idealize.ShloMosaic Cert.Pre_rows_nonzero_weights_finite Cert.Pre_rows_nonzero_weights_finite.Gen

variable (x v : FVec Ideal S2x16x2048x64 .f32) (a : FVec Ideal S1x16x128x64 .f32) (w : FVec Ideal S16x128x64 .f32)

/-- Where the first array of the precondition is all ones, every query row has a positive square sum. -/
theorem row_pos (h : (fn (F := Ideal) x v a w).1 = fun _ => 1#1) (b : Fin 2) (hd : Fin 16) (n : Fin 2048) :
    0 < ∑ c, x (ix4 b hd n c) * x (ix4 b hd n c) := by
  have e := congrFun h (ix3 b hd n)
  pointwise [fn] at e
  by_contra hn
  simp [hn] at e

/-- Where the second array of the precondition is all ones, every weight has a finite absolute value. -/
theorem weight_lt (h : (fn (F := Ideal) x v a w).2 = fun _ => 1#1) (hd : Fin 16) (b : Fin 128) (d : Fin 64) :
    max (w (ix3 hd b d)) (-(w (ix3 hd b d))) < ⊤ := by
  have e := congrFun h (ix3 hd b d)
  pointwise [fn] at e
  have top : Ideal.ofBits FTy.f32 2139095040#32 = (⊤ : EReal) := by simp [Ideal.ofBits, Ideal.ieee]
  rw [top, Ideal.absf_def] at e
  by_contra hn
  simp [hn] at e

end Cert.Pre_rows_nonzero_weights_finite.Meaning

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_rows_nonzero_weights_finite
public import proofs.«01_k».proof.Proof.Gen.ReferenceIdeal.Run
public import proofs.«01_k».proof.Proof.Gen.ReferenceIdeal.Read
public import proofs.«01_k».proof.Proof.Value.Math
public import proofs.«01_k».proof.Proof.Value.KernelValue
public import proofs.«01_k».proof.Proof.Value.RefValue
public import proofs.«01_k».proof.Proof.Value.Pre
public import Idealize.ShloMosaic.Adequacy
public import Idealize.ShloMosaic.Init

@[expose] public section

noncomputable section

namespace Cert.Proof

open Idealize.ShloMosaic Idealize.SL.Sem Cert.Kernel

/-- Every run of the reference leaves its arguments as they were and every counter at zero. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Where every query row has a positive square sum and every bucket weight is finite, the kernel's output array is the
    reference's. -/
theorem same_output : Cert.algebraic_KernelIdeal_ReferenceIdeal_pre_rows_nonzero_weights_finite := by
  intro m ρ m' ρ' hpre hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, (hagree c).1, (hagree c).2.1, (hagree c).2.2.1, (hagree c).2.2.2]
  funext i
  obtain ⟨b, h, n, e, rfl⟩ : ∃ b h n e, i = ix4 b h n e := ⟨i 0, i 1, i 2, i 3, ValueIdx.eq_ix4 i⟩
  refine (Cert.ReferenceIdeal.Result.result_apply _ _ _ _ b h n e).trans ?_
  exact (Hash.head_eq _ _ _ _
    (fun n => Cert.Pre_rows_nonzero_weights_finite.Meaning.row_pos _ _ _ _ (hpre c).1 b h n)
    (fun k d => Cert.Pre_rows_nonzero_weights_finite.Meaning.weight_lt _ _ _ _ (hpre c).2 h k d) n e).symm

/-- Every claim of the certificate: the three frames, that the kernel is preserved, and that the outputs agree. -/
theorem claim : Cert.Claim :=
  ⟨Cert.Kernel.Gen.facts, Cert.KernelIdeal.Gen.facts, Cert.ReferenceIdeal.Gen.facts,
    Cert.Pre_rows_nonzero_weights_finite.Gen.facts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    trivial,
    same_output⟩

end Cert.Proof

end
